-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_selected_rows_finite [hPre_selected_rows_finite : Cert.Pre_selected_rows_finite.Facts] (m : (ℓ : Loc Cert.KernelIdeal.nD Cert.KernelIdeal.τ Cert.KernelIdeal.sig) → Buf (Elt Ideal) ℓ) : Prop :=
  ∀ c : Dev Cert.KernelIdeal.nD,
    (Cert.Pre_selected_rows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_selected_rows_finite [hPre_selected_rows_finite : Cert.Pre_selected_rows_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_selected_rows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_selected_rows_finite [hKernelIdeal : Cert.KernelIdeal.Facts] [hPre_selected_rows_finite : Cert.Pre_selected_rows_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_selected_rows_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_selected_rows_finite [hReferenceIdeal : Cert.ReferenceIdeal.Facts] [hPre_selected_rows_finite : Cert.Pre_selected_rows_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_selected_rows_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_selected_rows_finite [hKernelIdeal : Cert.KernelIdeal.Facts] [hReferenceIdeal : Cert.ReferenceIdeal.Facts] [hPre_selected_rows_finite : Cert.Pre_selected_rows_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_selected_rows_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_selected_rows_finite : Cert.Pre_selected_rows_finite.Facts),
    quiescent_Kernel (hKernel := hKernel)
    ∧ quiescent_KernelIdeal (hKernelIdeal := hKernelIdeal)
    ∧ quiescent_KernelIdeal_pre_selected_rows_finite (hKernelIdeal := hKernelIdeal) (hPre_selected_rows_finite := hPre_selected_rows_finite)
    ∧ quiescent_ReferenceIdeal (hReferenceIdeal := hReferenceIdeal)
    ∧ quiescent_ReferenceIdeal_pre_selected_rows_finite (hReferenceIdeal := hReferenceIdeal) (hPre_selected_rows_finite := hPre_selected_rows_finite)
    ∧ preserves_Kernel_KernelIdeal
    ∧ algebraic_KernelIdeal_ReferenceIdeal_pre_selected_rows_finite (hKernelIdeal := hKernelIdeal) (hReferenceIdeal := hReferenceIdeal) (hPre_selected_rows_finite := hPre_selected_rows_finite)
-- ==== Pre_selected_rows_finite.lean ====
abbrev S100000x128 : Shape := ⟨2, ![100000, 128]⟩
abbrev S100000 : Shape := ⟨1, ![100000]⟩
abbrev S128x128 : Shape := ⟨2, ![128, 128]⟩
abbrev S100000x1 : Shape := ⟨2, ![100000, 1]⟩
abbrev S_ : Shape := ⟨0, ![]⟩

class Facts : Prop where
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)

variable [Facts]

def fn {F : FTy → Type} [FloatOps F] (main_arg0 : FVec F S100000x128 .f32) (main_arg1 : IVec S100000 1) (main_arg2 : FVec F S128x128 .f32) : IVec S100000x128 1 :=
  let main_v0 : IVec S100000x1 1 := broadcastInDim S100000x1 ![0] bcast_S100000_S100000x1_0 main_arg1
  let main_v1 : IVec S100000x1 1 := noti main_v0
  let main_v2 : FVec F S100000x128 .f32 := Host.absf main_arg0
  let main_cst : FVec F S_ .f32 := constant S_ .f32 0x7F800000#32
  let main_v3 : FVec F S100000x128 .f32 := broadcastInDim S100000x128 ![] bcast_S_S100000x128 main_cst
  let main_v4 : IVec S100000x128 1 := cmpf .olt main_v2 main_v3
  let main_v5 : IVec S100000x128 1 := broadcastInDim S100000x128 ![0, 1] bcast_S100000x1_S100000x128_0_1 main_v1
  let main_v6 : IVec S100000x128 1 := ori main_v5 main_v4
  main_v6
-- ==== Kernel.lean ====
abbrev S100000x128 : Shape := ⟨2, ![100000, 128]⟩
abbrev S100000 : Shape := ⟨1, ![100000]⟩
abbrev S128x128 : Shape := ⟨2, ![128, 128]⟩
abbrev S_ : Shape := ⟨0, ![]⟩
abbrev S102400 : Shape := ⟨1, ![102400]⟩
abbrev S800x128 : Shape := ⟨2, ![800, 128]⟩
abbrev S256x128 : Shape := ⟨2, ![256, 128]⟩
abbrev S20480x128 : Shape := ⟨2, ![20480, 128]⟩
abbrev S160x128 : Shape := ⟨2, ![160, 128]⟩
abbrev S160x1x128 : Shape := ⟨3, ![160, 1, 128]⟩
abbrev S160x128x128 : Shape := ⟨3, ![160, 128, 128]⟩
abbrev S20480x256 : Shape := ⟨2, ![20480, 256]⟩

abbrev nBuf : Space → Nat
  | .hbm => 21
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S100000, .i1⟩
  | .hbm, ⟨2, _⟩ => ⟨S128x128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i1⟩
  | .hbm, ⟨8, _⟩ => ⟨S102400, .i1⟩
  | .hbm, ⟨9, _⟩ => ⟨S800x128, .i1⟩
  | .hbm, ⟨10, _⟩ => ⟨S128x128, .i32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S128x128, .f32⟩
  | .hbm, ⟨17, _⟩ => ⟨S128x128, .f32⟩
  | .hbm, ⟨18, _⟩ => ⟨S256x128, .f32⟩
  | .hbm, ⟨19, _⟩ => ⟨S800x128, .i32⟩
  | .hbm, ⟨20, _⟩ => ⟨S100000x128, .f32⟩
  | .local _ .vmem, ⟨0, _⟩ => ⟨S20480x128, .f32⟩
  | .local _ .vmem, ⟨1, _⟩ => ⟨S20480x128, .f32⟩
  | .local _ .vmem, ⟨2, _⟩ => ⟨S160x128, .i32⟩
  | .local _ .vmem, ⟨3, _⟩ => ⟨S160x128, .i32⟩
  | .local _ .vmem, ⟨4, _⟩ => ⟨S256x128, .f32⟩
  | .local _ .vmem, ⟨5, _⟩ => ⟨S20480x128, .f32⟩
  | .local _ .vmem, ⟨6, _⟩ => ⟨S20480x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20480x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20480x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S100000x128 : Shape := ⟨2, ![100000, 128]⟩
abbrev S100000 : Shape := ⟨1, ![100000]⟩
abbrev S128x128 : Shape := ⟨2, ![128, 128]⟩
abbrev S100000x1 : Shape := ⟨2, ![100000, 1]⟩

abbrev nBuf : Space → Nat
  | .hbm => 7
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i1⟩
  | .hbm, ⟨2, _⟩ => ⟨S128x128, .f32⟩
  | .hbm, ⟨3, _⟩ => ⟨S100000x128, .f32⟩
  | .hbm, ⟨4, _⟩ => ⟨S100000x1, .i1⟩
  | .hbm, ⟨5, _⟩ => ⟨S100000x128, .i1⟩
  | .hbm, ⟨6, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.KernelFrame.lean ====
/-
  The frame of the program `Kernel`, at any float values. The product of a block is taken over the whole staging
  buffer, whose last rows hold nothing in particular at the last grid point, so nothing is said here of what the
  result holds: the result's window is forgotten, and the argument arrays and the semaphore counters are what is
  read off the run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.Quiescent
public import Idealize.ShloMosaic.Lib.Tactic

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One run of the body: it reads the three input buffers, leaves them as they were, and leaves something in the
    result's buffer. -/
theorem body_runs (c : Dev nD) (E : Set ℕ) (i : grid0.Coords)
    (arg1 : Memref sig .tc .vmem S20480x128 .f32) (harg1 : arg1.IsWhole)
    (arg2 : Memref sig .tc .vmem S160x128 .i32) (harg2 : arg2.IsWhole)
    (arg3 : Memref sig .tc .vmem S256x128 .f32) (harg3 : arg3.IsWhole)
    (arg4 : Memref sig .tc .vmem S20480x128 .f32) (harg4 : arg4.IsWhole)
    (x0 : Vec F S20480x128 .f32) (x1 : Vec F S160x128 .i32) (x2 : Vec F S256x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ (∃ d, owns (c : Thread nD τ) arg4 fullShare d)) -∗ K ⟨⟩))
      ⊢ wp frame (wpE (defs₀ (F := F)) Variants.none c none) E
          (cc0__fused_body i arg1 harg1 arg2 harg2 arg3 harg3 arg4 harg4) K := by
  simp only [cc0__fused_body_eq_skeleton]; unfold cc0__fused_body_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _, _; isplitr; swap; · iexact H3
  ipureintro; rfl

variable (m : (ℓ : Loc nD τ sig) → Buf (Elt F) ℓ) (ρ : Dev nD → PrngReg)

/-- The result's window, number 3, is the one nothing is said of. -/
def forgotten : Fin 4 → Bool := fun w => w.val == 3

/-- Window 0's staging buffer: its block on the rows inside the array, the zero word on the rows past its end. -/
def xbuf (c : Dev nD) (t : Fin cfg0.N) : S20480x128.Idx → Elt F .f32 :=
  win0_0.fill (grid0.coords t) (fun _ => Scalar.ofBits .f32 0#32) (iblk m c 0 t)

/-- The proof data: the arrays as the region finds them; after the body each input buffer at its block. -/
def dats (_ : Fin 1) (c : Dev nD) : Dat τ (Elt F) Unit ℕ (UR sig nD τ) ℕ cfg0 c where
  A w := V m c (Pipeline.arrRef spec0 w)
  after w t := match w with
    | ⟨0, _⟩ => xbuf m c t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the contents the region is entered with. -/
theorem A_eq (c : Dev nD) (w : Fin cfg0.W) : (dats m 0 c).A w = V m c (Pipeline.arrRef spec0 w) := by
  dsimp only [dats]

/-- The first window's buffer holds, before the body, its block and anything past the array's end. -/
theorem before_x (c : Dev nD) (t : Fin cfg0.N) (d) :
    (dats m 0 c).before 0 t d = win0_0.fill (grid0.coords t) d (iblk m c 0 t) := by
  unfold Dat.before; rw [if_pos (fetch0_0 t)]; rfl

/-- The mask's buffer holds its block before the body. -/
theorem before_mask (c : Dev nD) (t : Fin cfg0.N) (d) : (dats m 0 c).before 1 t d = iblk m c 1 t :=
  before0_1_of m (dats m 0 c) (A_eq m c 1) (fun _ => by dsimp only [dats]) t d

/-- The weights' buffer holds its block before the body. -/
theorem before_w (c : Dev nD) (t : Fin cfg0.N) (d) : (dats m 0 c).before 2 t d = iblk m c 2 t :=
  before0_2_of m (dats m 0 c) (A_eq m c 2) (fun _ => by dsimp only [dats]) t d

/-- Each window's buffer before the body at a point, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- Each window's buffer after the body at a point: the first stated on the rows inside the array, the result's at
    anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

/-- What the first window's buffer is stated to hold after the body, cut to the rows inside the array, is its block. -/
theorem cut_after_x (c : Dev nD) (t : Fin cfg0.N) :
    win0_0.cut (grid0.coords t) ((dats m 0 c).after 0 t) = iblk m c 0 t :=
  win0_0.cut_fill (grid0.coords t) (fun _ => Scalar.ofBits .f32 0#32) (iblk m c 0 t)

/-- The body at a point takes the buffers from before to after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_mask, before_w, cut_after_x]
  rw [show (dats m 0 c).Φ t.succ = (dats m 0 c).Φ t.castSucc from rfl,
    show (dats m 0 c).owesAt () t.succ = (dats m 0 c).owesAt () t.castSucc from rfl,
    show (dats m 0 c).after 1 t = iblk m c 1 t from rfl, show (dats m 0 c).after 2 t = iblk m c 2 t from rfl]
  iintro ⟨HΦ, Ho, ⟨%d0, H0⟩, ⟨%d1, H1⟩, ⟨%d2, H2⟩, ⟨%d3, H3⟩⟩
  iapply (body_runs c Set.univ (grid0.coords t) _ _ _ _ _ _ _ _ (win0_0.fill (grid0.coords t) d0 (iblk m c 0 t))
    (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [cut_after_x m c t]; try iexact H0
  isplitl [H1]; · iexact H1
  isplitl [H2]; · iexact H2
  iexact H3

/-- The body table's row at a point is the body at that point's buffers. -/
theorem defs₀_row (t : Fin cfg0.N) :
    (defs₀ (F := F)) .tc cfg0.body (cfg0.bodyArgs t (cfg0.slots t)) = bodyAt0 t := by
  unfold defs₀; rw [Defs.onTc_tc]

/-- The pipeline's obligation on the body, at every point. -/
theorem body_obligation (c : Dev nD) :
    BodyObligationLoose (dats (F := F) m 0 c) (defs₀ (F := F)) Variants.none () Set.univ forgotten := fun t => by
  rw [bigSep_W0, bigSep_W0, defs₀_row]
  exact triple_restated (sound_body m c t) rfl .rfl fun _ => .rfl

/-- The program runs, every input array a window stages ends as the region found it, every buffer no window stages
    too, and every counter at zero. -/
theorem run_main : θ_run defs (onTc (τ := τ) (main (F := F))) (s₀ m ρ)
    (fun r => Pipeline.RDat.FramePost (cfgs 0) (fun c => (dats m 0 c).toRForget forgotten) (V m) r ∧ r.2.sem = fun _ => 0) :=
  Pipeline.θ_run_frame_forget (Q' := _) cfgs (dats m) (0 : Fin 1) launch0 defs₀ Variants.none forgotten m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs, its three arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ ⟨h, hz⟩ => ⟨fun c =>
      ⟨(Pipeline.RDat.FramePost.arr_in h c 0 rfl).trans ((A_eq m c 0).trans (V_main_arg0 m c)),
        ((h c).2 main_arg1 (Pipeline.mem_restRefs_of main_arg1 (by decide) (by decide))).trans (V_main_arg1 m c),
        ((h c).2 main_arg2 (Pipeline.mem_restRefs_of main_arg2 (by decide) (by decide))).trans (V_main_arg2 m c)⟩, hz⟩)
    (run_main m ρ)

end Cert.KernelFrame

end
-- ==== Proof.HostOperands.lean ====
/-
  What the region finds in the two arrays that the kernel's host operations fill: the mask, padded and laid out in
  rows of 128 words, and the two weight blocks one above the other, the identity and the weight less the identity.
-/
module

public import proofs.«01_k».proof.Proof.Gen.KernelIdeal.Frame
public import Idealize.ShloMosaic.Lib.StableHlo.Run
public import Idealize.ShloMosaic.Lib.Pointwise

@[expose] public section

set_option maxRecDepth 16384

noncomputable section

namespace Cert.HostOperands

open Cert.KernelIdeal Cert.KernelIdeal.Gen
open Idealize.ShloMosaic Idealize.ShloMosaic.TcCoe Idealize.ShloMosaic.StableHlo

/-- The two weight blocks one above the other, as the host operations compute them from the weight. -/
def weights (w : FVec Ideal S128x128 .f32) : FVec Ideal S256x128 .f32 :=
  have eye : FVec Ideal S128x128 .f32 := uitofp .f32 (cmpi .eq
    (addi (iotaInDim S128x128 32 0) (broadcastInDim S128x128 ![] Facts₀.bcast_S_S128x128 (constantI S_ 32 0#32)))
    (iotaInDim S128x128 32 1))
  concatenate S256x128 0 [⟨S128x128, eye⟩, ⟨S128x128, subf w eye⟩] Facts₀.concatenates_S128x128_S128x128_S256x128_d0

/-- The mask padded with zeros to whole blocks, in rows of 128 words. -/
def maskRows (k : IVec S100000 1) : IVec S800x128 32 :=
  extui 32 (shapeCast S800x128 (pad S102400 ![0] ![2400] ![0] k
    (cmpi .ne (constantI S_ 32 0#32) (broadcastInDim S_ ![] Facts₀.bcast_S_S_ (constantI S_ 32 0#32)))
    Facts₀.pads_S100000_S102400_024000 h_S_) Facts₀.shapeCasts_S102400_S800x128) Facts₀.natLt_1_32

variable (m : (ℓ : Loc nD τ sig) → Buf (Elt Ideal) ℓ)

/-- The region finds the two weight blocks in the third window's array. -/
theorem V_weights (c : Dev nD) : V m c main_v9 = weights (m ((c.tc : Thread nD τ).loc main_arg2)) := by
  simp only [V, hostOps0, hostOps0_1, hostOps0_2, List.flatten_cons, List.flatten_nil, List.append_nil, List.cons_append,
    List.nil_append, TRef.unary, TRef.binary, TRef.nullary, TRef.toBuf, TRef.ofBuf, cast_eq]
  after_results
  rfl

/-- The region finds the mask's rows in the second window's array. -/
theorem V_mask (c : Dev nD) : V m c main_v10 = maskRows (m ((c.tc : Thread nD τ).loc main_arg1)) := by
  simp only [V, hostOps0, hostOps0_1, hostOps0_2, List.flatten_cons, List.flatten_nil, List.append_nil, List.cons_append,
    List.nil_append, TRef.unary, TRef.binary, TRef.nullary, TRef.toBuf, TRef.ofBuf, cast_eq]
  after_results
  rfl

/-- Comparing the two axes' counters gives the identity's entries: one on the diagonal, zero elsewhere. -/
theorem eye_at (k j : Fin 128) :
    FloatOps.uitofp (F := Ideal) FTy.f32 (IntOp.cmpi .eq (IntOp.addi (BitVec.ofNat 32 k.val) 0#32) (BitVec.ofNat 32 j.val))
      = if k = j then (1 : EReal) else 0 := by
  have e : (BitVec.ofNat 32 k.val = BitVec.ofNat 32 j.val) ↔ k = j := by
    constructor
    · intro h
      have h' := congrArg BitVec.toNat h
      simp only [BitVec.toNat_ofNat] at h'
      exact Fin.ext (by omega)
    · rintro rfl; rfl
  by_cases h : k = j
  · subst h
    simp [FloatOps.uitofp, IntOp.cmpi, IntOp.addi]
  · have h' : ¬ BitVec.ofNat 32 k.val = BitVec.ofNat 32 j.val := fun q => h (e.mp q)
    simp [FloatOps.uitofp, IntOp.cmpi, IntOp.addi, h, h']

/-- The upper weight block is the identity. -/
theorem weights_top (w : FVec Ideal S128x128 .f32) (k j : Fin 128) (h : k.val < 256) :
    weights w (ix2 ⟨k.val, h⟩ j) = if k = j then (1 : EReal) else 0 := by
  rw [← eye_at]
  pointwise [weights]

/-- The lower weight block is the weight less the identity. -/
theorem weights_bottom (w : FVec Ideal S128x128 .f32) (k j : Fin 128) (h : 128 + k.val < 256) :
    weights w (ix2 ⟨128 + k.val, h⟩ j) = w (ix2 k j) - if k = j then (1 : EReal) else 0 := by
  rw [← eye_at]
  pointwise [weights]

/-- A mask bit widened to a word is not zero exactly when the bit is set. -/
theorem ne_zero_of_bit (b : BitVec 1) : IntOp.cmpi .ne (BitVec.setWidth 32 b) 0#32 = b := by
  revert b; decide

/-- The word of the mask's rows for a row of the array is that row's mask bit, once compared with zero. -/
theorem mask_at (k : IVec S100000 1) (r : Fin 100000) (h : r.val / 128 < 800) (h' : r.val % 128 < 128) :
    IntOp.cmpi .ne (maskRows k (ix2 ⟨r.val / 128, h⟩ ⟨r.val % 128, h'⟩)) 0#32 = k (ix1 r) := by
  have hr : r.val / 128 * 128 + r.val % 128 = r.val := by omega
  have e : maskRows k (ix2 ⟨r.val / 128, h⟩ ⟨r.val % 128, h'⟩) = BitVec.setWidth 32 (k (ix1 r)) := by
    pointwise [maskRows]
    rw [dif_pos (by rw [hr]; exact r.isLt)]
    simp only [hr, Fin.eta]
  rw [e, ne_zero_of_bit]

end Cert.HostOperands

end
-- ==== Proof.Block.lean ====
/-
  What one block of the kernel computes at the ideal values: one entry of the product it stores, as a sum over the
  weights' two halves.
-/
module

public import proofs.«01_k».proof.Proof.Gen.KernelIdeal.Skeleton
public import Idealize.ShloMosaic.Lib.Pointwise

@[expose] public section

set_option maxRecDepth 16384

noncomputable section

namespace Cert.Block

open Cert.KernelIdeal Cert.KernelIdeal.Gen
open Idealize.ShloMosaic

/-- One entry of a block: the row times the weights' upper half, plus, where the mask word of the row is not zero,
    the row times their lower half. Only the row's own entries of the buffer are read. -/
theorem block_at (x : Vec Ideal S20480x128 .f32) (k : Vec Ideal S160x128 .i32) (w : Vec Ideal S256x128 .f32)
    (r : Fin 20480) (j : Fin 128) :
    k0_pay1 x k w (ix2 r j)
      = ∑ l : Fin 128, x (ix2 r l) * w (ix2 ⟨l.val, by omega⟩ j)
        + ∑ l : Fin 128, Scalar.select (IntOp.cmpi .ne (k (ix2 ⟨r.val / 128, by omega⟩ ⟨r.val % 128, by omega⟩)) 0#32)
            (x (ix2 r l) * w (ix2 ⟨128 + l.val, by omega⟩ j)) 0 := by
  pointwise [k0_pay1]

/-- The whole result array as the blocks compute it, of the array of rows, the mask in rows of 128 words, and the two
    weight blocks one above the other. -/
def whole (x : FVec Ideal S100000x128 .f32) (k : IVec S800x128 32) (w : FVec Ideal S256x128 .f32) :
    FVec Ideal S100000x128 .f32 := fun i =>
  have h : (i 0).val < 100000 := (i 0).isLt
  ∑ l : Fin 128, x (ix2 ⟨(i 0).val, h⟩ l) * w (ix2 ⟨l.val, by omega⟩ (i 1))
    + ∑ l : Fin 128, Scalar.select (IntOp.cmpi .ne (k (ix2 ⟨(i 0).val / 128, by omega⟩ ⟨(i 0).val % 128, by omega⟩)) 0#32)
        (x (ix2 ⟨(i 0).val, h⟩ l) * w (ix2 ⟨128 + l.val, by omega⟩ (i 1))) 0

/-- The whole result array at a row and a column. -/
theorem whole_at (x : FVec Ideal S100000x128 .f32) (k : IVec S800x128 32) (w : FVec Ideal S256x128 .f32)
    (r : Fin 100000) (j : Fin 128) :
    whole x k w (ix2 r j)
      = ∑ l : Fin 128, x (ix2 r l) * w (ix2 ⟨l.val, by omega⟩ j)
        + ∑ l : Fin 128, Scalar.select (IntOp.cmpi .ne (k (ix2 ⟨r.val / 128, by omega⟩ ⟨r.val % 128, by omega⟩)) 0#32)
            (x (ix2 r l) * w (ix2 ⟨128 + l.val, by omega⟩ j)) 0 := rfl

end Cert.Block

end
-- ==== Proof.KernelRun.lean ====
/-
  The run of the program `KernelIdeal` at the ideal values, with what the result array ends holding. An entry of a
  block's product reads its own row of the staging buffer only, so the rows that lie past the array's end at the last
  grid point reach no entry that is written back.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.HostOperands
public import proofs.«01_k».proof.Proof.Block
public import Idealize.ShloMosaic.Lib.Pipeline.Quiescent
public import Idealize.ShloMosaic.Lib.Pipeline.Value
public import Idealize.ShloMosaic.Lib.VecWindow
public import Idealize.ShloMosaic.Lib.Tactic

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- One run of the body: it reads the three input buffers, leaves them as they were, and leaves the block's product
    in the result's buffer. -/
theorem body_runs (c : Dev nD) (E : Set ℕ) (i : grid0.Coords)
    (arg1 : Memref sig .tc .vmem S20480x128 .f32) (harg1 : arg1.IsWhole)
    (arg2 : Memref sig .tc .vmem S160x128 .i32) (harg2 : arg2.IsWhole)
    (arg3 : Memref sig .tc .vmem S256x128 .f32) (harg3 : arg3.IsWhole)
    (arg4 : Memref sig .tc .vmem S20480x128 .f32) (harg4 : arg4.IsWhole)
    (x0 : Vec Ideal S20480x128 .f32) (x1 : Vec Ideal S160x128 .i32) (x2 : Vec Ideal S256x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := Ideal)) Variants.none c none) E
          (cc0__fused_body i arg1 harg1 arg2 harg2 arg3 harg3 arg4 harg4) K := by
  simp only [cc0__fused_body_eq_skeleton]; unfold cc0__fused_body_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr; swap; · iexact H3
  ipureintro
  rw [View.read_writes_full, View.readAt_full, View.readAt_full, View.readAt_full, hf0, hf1, hf2]

/-! ## The blocks of the arrays -/

/-- The first window's block index at a point is the point along the rows and zero along the columns. -/
theorem index_x (t : Fin grid0.N) : win0_0.index t 0 = t.val ∧ win0_0.index t 1 = 0 := by
  rcases fin_N0 t with rfl | rfl | rfl | rfl | rfl <;> decide +kernel
/-- The mask window's likewise. -/
theorem index_mask (t : Fin grid0.N) : win0_1.index t 0 = t.val ∧ win0_1.index t 1 = 0 := by
  rcases fin_N0 t with rfl | rfl | rfl | rfl | rfl <;> decide +kernel
/-- The weights' window has one block. -/
theorem index_w (t : Fin grid0.N) : win0_2.index t 0 = 0 ∧ win0_2.index t 1 = 0 := by
  rcases fin_N0 t with rfl | rfl | rfl | rfl | rfl <;> decide +kernel
/-- The result window's block index at a point is the point along the rows and zero along the columns. -/
theorem index_out (t : Fin grid0.N) : win0_3.index t 0 = t.val ∧ win0_3.index t 1 = 0 := by
  rcases fin_N0 t with rfl | rfl | rfl | rfl | rfl <;> decide +kernel
/-- A block spans the columns; its rows inside the array are 20480, or what is left of the array's 100000. -/
theorem size_out (t : Fin grid0.N) :
    win0_3.xsize (grid0.coords t) 0 = min 20480 (100000 - t.val * 20480) ∧ win0_3.xsize (grid0.coords t) 1 = 128 := by
  rcases fin_N0 t with rfl | rfl | rfl | rfl | rfl <;> decide +kernel
/-- The rows moved by the first window's fetch are those moved by the result window's write-back. -/
theorem size_x (t : Fin grid0.N) :
    win0_0.xsize (grid0.coords t) 0 = win0_3.xsize (grid0.coords t) 0 ∧ win0_0.xsize (grid0.coords t) 1 = 128 := by
  rcases fin_N0 t with rfl | rfl | rfl | rfl | rfl <;> decide +kernel

variable (m : (ℓ : Loc nD τ sig) → Buf (Elt Ideal) ℓ) (ρ : Dev nD → PrngReg)

/-- What the result array is shown to end holding: `Block.whole` of the contents the region is entered with. -/
def final (c : Dev nD) : FVec Ideal S100000x128 .f32 :=
  Block.whole (V m c main_arg0) (V m c main_v10) (V m c main_v9)

/-- The first window's block, inside the array, read at an index: the array's entry a block's rows further on. -/
theorem xblk_at (c : Dev nD) (t : Fin cfg0.N) (j : (win0_0.xblock (grid0.coords t)).Idx) (r : Fin 100000) (l : Fin 128)
    (hr : r.val = t.val * 20480 + (j 0).val) (hl : l.val = (j 1).val) :
    iblk m c 0 t j = V m c main_arg0 (ix2 r l) := by
  show V m c main_arg0 ((win0_0.blk t).view.emb j) = _
  congr 1
  funext a
  apply Fin.ext
  match a with
  | ⟨0, _⟩ =>
    show win0_0.index t 0 * 20480 + 1 * (j 0).val = r.val
    rw [(index_x t).1]; omega
  | ⟨1, _⟩ =>
    show win0_0.index t 1 * 128 + 1 * (j 1).val = l.val
    rw [(index_x t).2]; omega

/-- The mask window's block read at an index: the word of the array a block's rows further on. -/
theorem maskblk_at (c : Dev nD) (t : Fin cfg0.N) (a : Fin 160) (l : Fin 128) (r : Fin 800)
    (hr : r.val = t.val * 160 + a.val) : iblk m c 1 t (ix2 a l) = V m c main_v10 (ix2 r l) := by
  show V m c main_v10 ((win0_1.blk t).view.emb (ix2 a l)) = _
  congr 1
  funext b
  apply Fin.ext
  match b with
  | ⟨0, _⟩ =>
    show win0_1.index t 0 * 160 + 1 * a.val = r.val
    rw [(index_mask t).1]; omega
  | ⟨1, _⟩ =>
    show win0_1.index t 1 * 128 + 1 * l.val = l.val
    rw [(index_mask t).2]; omega

/-- The weights' window reads its whole array. -/
theorem wblk_at (c : Dev nD) (t : Fin cfg0.N) (k : Fin 256) (l : Fin 128) :
    iblk m c 2 t (ix2 k l) = V m c main_v9 (ix2 k l) := by
  show V m c main_v9 ((win0_2.blk t).view.emb (ix2 k l)) = _
  congr 1
  funext b
  apply Fin.ext
  match b with
  | ⟨0, _⟩ =>
    show win0_2.index t 0 * 256 + 1 * k.val = k.val
    rw [(index_w t).1]; omega
  | ⟨1, _⟩ =>
    show win0_2.index t 1 * 128 + 1 * l.val = l.val
    rw [(index_w t).2]; omega

/-- A block's index in the result array: a block's rows further on. -/
theorem emb_out (t : Fin cfg0.N) (j : (win0_3.xblock (grid0.coords t)).Idx) (r : Fin 100000) (l : Fin 128)
    (hr : r.val = t.val * 20480 + (j 0).val) (hl : l.val = (j 1).val) :
    (win0_3.blk t).view.emb j = ix2 r l := by
  funext a
  apply Fin.ext
  match a with
  | ⟨0, _⟩ =>
    show win0_3.index t 0 * 20480 + 1 * (j 0).val = r.val
    rw [(index_out t).1]; omega
  | ⟨1, _⟩ =>
    show win0_3.index t 1 * 128 + 1 * (j 1).val = l.val
    rw [(index_out t).2]; omega

/-- The first window's buffer, filled past the array's end with anything, holds on a row inside the array that row. -/
theorem xfill_at (c : Dev nD) (t : Fin cfg0.N) (d : S20480x128.Idx → Elt Ideal .f32) (a : Fin 20480) (l : Fin 128)
    (ha : a.val < win0_3.xsize (grid0.coords t) 0) (r : Fin 100000) (hr : r.val = t.val * 20480 + a.val) :
    win0_0.fill (grid0.coords t) d (iblk m c 0 t) (ix2 a l) = V m c main_arg0 (ix2 r l) := by
  have hm : win0_0.moved (grid0.coords t) (ix2 a l) = true := (win0_0.moved_iff _ _).mpr fun b => by
    match b with
    | ⟨0, _⟩ => exact lt_of_lt_of_eq ha (size_x t).1.symm
    | ⟨1, _⟩ => exact lt_of_lt_of_eq l.isLt (size_x t).2.symm
  unfold Window.fill
  rw [dif_pos hm]
  exact xblk_at m c t _ r l hr rfl

/-- What the body leaves of the result's buffer, cut to the rows inside the array, is the block of `final`,
    whatever the first window's buffer held past the array's end. -/
theorem block_final (c : Dev nD) (t : Fin cfg0.N) (d : S20480x128.Idx → Elt Ideal .f32) :
    win0_3.cut (grid0.coords t) (k0_pay1 (win0_0.fill (grid0.coords t) d (iblk m c 0 t)) (iblk m c 1 t) (iblk m c 2 t))
      = (win0_3.blk t).view.read (Elt Ideal) (final m c) := by
  funext j
  have h0 : (j 0).val < win0_3.xsize (grid0.coords t) 0 := (j 0).isLt
  have h1 : (j 1).val < 128 := (size_out t).2 ▸ (j 1).isLt
  have hs := (size_out t).1
  have ht : t.val < 5 := lt_of_lt_of_eq t.isLt N_0
  have hj : (j 0).val < 20480 := by omega
  have hrow : t.val * 20480 + (j 0).val < 100000 := by omega
  have ej : win0_3.xinj (grid0.coords t) j = ix2 (⟨(j 0).val, hj⟩ : Fin 20480) (⟨(j 1).val, h1⟩ : Fin 128) := by
    funext a; apply Fin.ext
    match a with
    | ⟨0, _⟩ => rfl
    | ⟨1, _⟩ => rfl
  show k0_pay1 _ _ _ (win0_3.xinj (grid0.coords t) j) = final m c ((win0_3.blk t).view.emb j)
  rw [ej, emb_out t j ⟨_, hrow⟩ ⟨_, h1⟩ rfl rfl, Block.block_at, final, Block.whole_at]
  simp only [xfill_at m c t d ⟨(j 0).val, hj⟩ _ h0 ⟨_, hrow⟩ rfl, wblk_at]
  rw [maskblk_at m c t ⟨(j 0).val / 128, by omega⟩ ⟨(j 0).val % 128, by omega⟩
    ⟨(t.val * 20480 + (j 0).val) / 128, by omega⟩ (by show (t.val * 20480 + (j 0).val) / 128 = t.val * 160 + (j 0).val / 128; omega)]
  have e : (j 0).val % 128 = (t.val * 20480 + (j 0).val) % 128 := by omega
  simp only [e]

/-! ## The proof data and the run -/

/-- Window 0's staging buffer: its block on the rows inside the array, the zero word on the rows past its end. -/
def xbuf (c : Dev nD) (t : Fin cfg0.N) : S20480x128.Idx → Elt Ideal .f32 :=
  win0_0.fill (grid0.coords t) (fun _ => Scalar.ofBits (F := Ideal) .f32 0#32) (iblk m c 0 t)

/-- The result's staging buffer after the body: `final`'s block on the rows inside the array, the zero word past its
    end. -/
def outbuf (c : Dev nD) (t : Fin cfg0.N) : S20480x128.Idx → Elt Ideal .f32 :=
  win0_3.fill (grid0.coords t) (fun _ => Scalar.ofBits (F := Ideal) .f32 0#32) ((win0_3.blk t).view.read (Elt Ideal) (final m c))

/-- The proof data: the arrays as the region finds them; after the body each input buffer at its block
    and the result's at `final`'s. -/
def dats (_ : Fin 1) (c : Dev nD) : Dat τ (Elt Ideal) Unit ℕ (UR sig nD τ) ℕ cfg0 c where
  A w := V m c (Pipeline.arrRef spec0 w)
  after w t := match w with
    | ⟨0, _⟩ => xbuf m c t
    | ⟨1, _⟩ => iblk m c 1 t
    | ⟨2, _⟩ => iblk m c 2 t
    | ⟨3, _⟩ => outbuf m c t
  Φ _ := Pipeline.ΦA spec0 c
  q _ := fullShare
  owed _ := 0

/-- The proof data's arrays are the contents the region is entered with. -/
theorem A_eq (c : Dev nD) (w : Fin cfg0.W) : (dats m 0 c).A w = V m c (Pipeline.arrRef spec0 w) := by
  dsimp only [dats]

/-- The first window's buffer holds, before the body, its block and anything past the array's end. -/
theorem before_x (c : Dev nD) (t : Fin cfg0.N) (d) :
    (dats m 0 c).before 0 t d = win0_0.fill (grid0.coords t) d (iblk m c 0 t) := by
  unfold Dat.before; rw [if_pos (fetch0_0 t)]; rfl

/-- The mask's buffer holds its block before the body. -/
theorem before_mask (c : Dev nD) (t : Fin cfg0.N) (d) : (dats m 0 c).before 1 t d = iblk m c 1 t :=
  before0_1_of m (dats m 0 c) (A_eq m c 1) (fun _ => by dsimp only [dats]) t d

/-- The weights' buffer holds its block before the body. -/
theorem before_w (c : Dev nD) (t : Fin cfg0.N) (d) : (dats m 0 c).before 2 t d = iblk m c 2 t :=
  before0_2_of m (dats m 0 c) (A_eq m c 2) (fun _ => by dsimp only [dats]) t d

/-- Each window's buffer before the body at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- Each window's buffer after the body at a point: the first and the result's stated on the rows inside the
    array. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- What the first window's buffer is stated to hold after the body, cut to the rows inside the array, is its block. -/
theorem cut_after_x (c : Dev nD) (t : Fin cfg0.N) :
    win0_0.cut (grid0.coords t) ((dats m 0 c).after 0 t) = iblk m c 0 t :=
  win0_0.cut_fill (grid0.coords t) (fun _ => Scalar.ofBits (F := Ideal) .f32 0#32) (iblk m c 0 t)

/-- What the result's buffer is stated to hold after the body, cut to the rows inside the array, is `final`'s block. -/
theorem cut_after_out (c : Dev nD) (t : Fin cfg0.N) :
    win0_3.cut (grid0.coords t) ((dats m 0 c).after 3 t) = (win0_3.blk t).view.read (Elt Ideal) (final m c) :=
  win0_3.cut_fill (grid0.coords t) (fun _ => Scalar.ofBits (F := Ideal) .f32 0#32) _

/-- The body at a point takes the buffers from before to after. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_x, before_mask, before_w, cut_after_x]
  rw [show (dats m 0 c).Φ t.succ = (dats m 0 c).Φ t.castSucc from rfl,
    show (dats m 0 c).owesAt () t.succ = (dats m 0 c).owesAt () t.castSucc from rfl,
    show (dats m 0 c).after 1 t = iblk m c 1 t from rfl, show (dats m 0 c).after 2 t = iblk m c 2 t from rfl]
  iintro ⟨HΦ, Ho, ⟨%d0, H0⟩, ⟨%d1, H1⟩, ⟨%d2, H2⟩, ⟨%d3, H3⟩⟩
  iapply (body_runs c Set.univ (grid0.coords t) _ _ _ _ _ _ _ _ (win0_0.fill (grid0.coords t) d0 (iblk m c 0 t))
    (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [cut_after_x m c t]; try iexact H0
  isplitl [H1]; · iexact H1
  isplitl [H2]; · iexact H2
  iexists (k0_pay1 (win0_0.fill (grid0.coords t) d0 (iblk m c 0 t)) (iblk m c 1 t) (iblk m c 2 t))
  rw [win0_3.fill_congr_cut (grid0.coords t) ((block_final m c t d0).trans (cut_after_out m c t).symm)]
  iexact H3

/-- The body table's row at a point is the body at that point's buffers. -/
theorem defs₀_row (t : Fin cfg0.N) :
    (defs₀ (F := Ideal)) .tc cfg0.body (cfg0.bodyArgs t (cfg0.slots t)) = bodyAt0 t := by
  unfold defs₀; rw [Defs.onTc_tc]

/-- The pipeline's obligation on the body, at every point. -/
theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

/-- The program runs; every array a window stages ends at the contents the write-backs give it, every buffer no window
    stages as the region found it, and every counter at zero. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- An index of the result array is in a point's block when its row is. -/
theorem mem_block (t : Fin cfg0.N) (i : S100000x128.Idx) (h : t.val * 20480 ≤ (i 0).val)
    (h' : (i 0).val < t.val * 20480 + win0_3.xsize (grid0.coords t) 0) : i ∈ (win0_3.blk t).view.set := by
  show i ∈ ((View.whole main_v11).slice (win0_3.rect t)).set
  rw [View.set_slice_whole, Rect.mem_set_unit]
  intro a
  match a with
  | ⟨0, _⟩ =>
    show win0_3.index t 0 * 20480 ≤ (i 0).val ∧ (i 0).val < win0_3.index t 0 * 20480 + win0_3.xsize (grid0.coords t) 0
    rw [(index_out t).1]; exact ⟨h, h'⟩
  | ⟨1, _⟩ =>
    show win0_3.index t 1 * 128 ≤ (i 1).val ∧ (i 1).val < win0_3.index t 1 * 128 + win0_3.xsize (grid0.coords t) 1
    rw [(index_out t).2, (size_out t).2]
    have h1 : (i 1).val < 128 := (i 1).isLt
    omega

/-- After the last write-back the result array is `final`. -/
theorem out_final (c : Dev nD) : (dats m 0 c).arrAt 3 cfg0.N = final m c :=
  (dats m 0 c).arrAt_eq_of_cover 3 (final m c) (fun t _ => cut_after_out m c t) fun i => by
    have h0 : (i 0).val < 100000 := (i 0).isLt
    have ht : (i 0).val / 20480 < cfg0.N := by rw [show cfg0.N = 5 from N_0]; omega
    refine ⟨⟨(i 0).val / 20480, ht⟩, flush0_3 _, mem_block _ i ?_ ?_⟩
    · show (i 0).val / 20480 * 20480 ≤ (i 0).val
      omega
    · rw [(size_out _).1]
      show (i 0).val < (i 0).val / 20480 * 20480 + min 20480 (100000 - (i 0).val / 20480 * 20480)
      omega

/-- The frame: the program runs, its three arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) (A_eq m)) (run_main m ρ)

/-- The value: the result array ends holding `Block.whole` of the first argument, the mask's rows and the two weight
    blocks, and the arguments end unchanged. -/
theorem value : θ_run defs (onTc (τ := τ) (main (F := Ideal))) ⟨m, fun _ => 0, ρ⟩ (fun r => ∀ c : Dev nD,
      r.2.mem ((c.tc : Thread nD τ).loc main_v11) = Block.whole (m ((c.tc : Thread nD τ).loc main_arg0))
        (HostOperands.maskRows (m ((c.tc : Thread nD τ).loc main_arg1)))
        (HostOperands.weights (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ ⟨h, _⟩ c =>
      ⟨((h c).1 3).trans ((out_final m c).trans (by
          unfold final; rw [V_main_arg0, HostOperands.V_mask, HostOperands.V_weights])),
        ((h c).1 0).trans (((dats m 0 c).arrAt_in 0 rfl _).trans ((A_eq m c 0).trans (V_main_arg0 m c))),
        ((h c).2 main_arg1 (Pipeline.mem_restRefs_of main_arg1 (by decide) (by decide))).trans (V_main_arg1 m c),
        ((h c).2 main_arg2 (Pipeline.mem_restRefs_of main_arg2 (by decide) (by decide))).trans (V_main_arg2 m c)⟩)
    (run_main m ρ)

end Cert.KernelRun

end
-- ==== Proof.Reference.lean ====
/-
  What the reference computes, at an index.
-/
module

public import proofs.«01_k».proof.Proof.Gen.ReferenceIdeal.Run
public import Idealize.ShloMosaic.Lib.Pointwise

@[expose] public section

set_option maxRecDepth 16384

noncomputable section

namespace Cert.Reference

open Cert.ReferenceIdeal Cert.ReferenceIdeal.Gen
open Idealize.ShloMosaic

/-- What the reference computes from its three arguments. -/
def result (x : FVec Ideal S100000x128 .f32) (k : IVec S100000 1) (w : FVec Ideal S128x128 .f32) : FVec Ideal S100000x128 .f32 :=
  select (broadcastInDim S100000x128 ![0, 1] Facts₀.bcast_S100000x1_S100000x128_0_1
      (broadcastInDim S100000x1 ![0] Facts₀.bcast_S100000_S100000x1_0 k))
    (Host.dotGeneral dot_S100000x128_S128x128_S100000x128_1_0_0_1_n_n none x w) x

/-- One entry of the reference's result: the row times the weight where the mask selects the row, else the row's own
    entry. -/
theorem result_at (x : FVec Ideal S100000x128 .f32) (k : IVec S100000 1) (w : FVec Ideal S128x128 .f32)
    (r : Fin 100000) (j : Fin 128) :
    result x k w (ix2 r j) = Scalar.select (k (ix1 r)) (∑ l : Fin 128, x (ix2 r l) * w (ix2 l j)) (x (ix2 r j)) := by
  pointwise [result]

end Cert.Reference

end
-- ==== Proof.Equation.lean ====
/-
  The equation of the extended reals that the kernel rests on: a row times the identity, plus the row times the weight
  less the identity, is the row times the weight, when the row's entries are finite.
-/
module

public import Mathlib.Data.EReal.Operations
public import Mathlib.Algebra.BigOperators.Fin
public import Mathlib.Tactic.Ring

@[expose] public section

noncomputable section

namespace Cert.Equation

/-- A finite `a` times `w - 1`, added to `a`, is `a` times `w`, for any extended real `w`. -/
theorem add_mul_sub_one (a w : EReal) (h : a ≠ ⊤) (h' : a ≠ ⊥) : a + a * (w - 1) = a * w := by
  lift a to ℝ using ⟨h, h'⟩
  induction w with
  | coe w =>
    norm_cast
    ring
  | top =>
    rw [show (⊤ : EReal) - 1 = ⊤ from EReal.top_sub_coe 1]
    rcases lt_trichotomy a 0 with ha | rfl | ha
    · rw [EReal.coe_mul_top_of_neg ha]; exact EReal.add_bot _
    · simp
    · rw [EReal.coe_mul_top_of_pos ha]; exact EReal.coe_add_top _
  | bot =>
    rw [show (⊥ : EReal) - 1 = ⊥ from EReal.bot_sub _]
    rcases lt_trichotomy a 0 with ha | rfl | ha
    · rw [EReal.coe_mul_bot_of_neg ha]; exact EReal.coe_add_top _
    · simp
    · rw [EReal.coe_mul_bot_of_pos ha]; exact EReal.add_bot _

variable {n : ℕ}

/-- A row times the identity is the row, whatever its entries. -/
theorem sum_mul_eye (x : Fin n → EReal) (j : Fin n) : ∑ l, x l * (if l = j then (1 : EReal) else 0) = x j := by
  rw [Finset.sum_eq_single j]
  · rw [if_pos rfl, mul_one]
  · intro l _ h; rw [if_neg h, mul_zero]
  · intro h; exact absurd (Finset.mem_univ j) h

/-- An entry of a finite row, plus the row times a column less the identity's, is the row times the column. -/
theorem add_sum_mul_sub_eye (x w : Fin n → EReal) (j : Fin n) (h : x j ≠ ⊤) (h' : x j ≠ ⊥) :
    x j + ∑ l, x l * (w l - if l = j then (1 : EReal) else 0) = ∑ l, x l * w l := by
  rw [← Finset.add_sum_erase _ _ (Finset.mem_univ j), ← Finset.add_sum_erase _ (fun l => x l * w l) (Finset.mem_univ j),
    if_pos rfl, ← add_assoc, add_mul_sub_one _ _ h h']
  congr 1
  refine Finset.sum_congr rfl fun l hl => ?_
  rw [if_neg (Finset.ne_of_mem_erase hl), sub_zero]

end Cert.Equation

end
-- ==== Proof.Precondition.lean ====
/-
  What the precondition says, at an index: an entry of a row that the mask selects is neither infinity.
-/
module

public import proofs.«01_k».proof.Proof.Gen.Pre_selected_rows_finite
public import Idealize.ShloMosaic.Lib.Pointwise

@[expose] public section

set_option maxRecDepth 16384

noncomputable section

namespace Cert.Precondition

open Cert.Pre_selected_rows_finite
open Idealize.ShloMosaic

/-- The word that the comparison with infinity reads as is the top of the extended reals. -/
theorem inf_word : FloatOps.ofBits (F := Ideal) .f32 0x7F800000#32 = (⊤ : EReal) := by
  show Ideal.ofBits .f32 0x7F800000#32 = ⊤
  simp [Ideal.ofBits, Ideal.ieee]

/-- An absolute value below the top is of a real number. -/
theorem finite_of_abs_lt_top (a : EReal) (h : max a (-a) < ⊤) : a ≠ ⊤ ∧ a ≠ ⊥ := by
  constructor
  · rintro rfl; simp at h
  · rintro rfl; simp at h

/-- The predicate at an index: the mask does not select the row, or the entry is finite. -/
theorem finite_of_selected (x : FVec Ideal S100000x128 .f32) (k : IVec S100000 1) (w : FVec Ideal S128x128 .f32)
    (h : fn (F := Ideal) x k w = fun _ => 1#1) (r : Fin 100000) (j : Fin 128) (hk : k (ix1 r) = 1#1) :
    (x (ix2 r j) : EReal) ≠ ⊤ ∧ (x (ix2 r j) : EReal) ≠ ⊥ := by
  have e := congrFun h (ix2 r j)
  revert e
  pointwise [fn]
  rw [hk]
  intro e
  apply finite_of_abs_lt_top
  by_contra hn
  have hd : decide ((FloatOps.absf (F := Ideal) (x (ix2 r j)) : EReal) < Ideal.ofBits .f32 0x7F800000#32) = false :=
    decide_eq_false (fun hlt => hn (lt_of_lt_of_eq hlt inf_word))
  rw [hd] at e
  exact absurd e (by decide)

end Cert.Precondition

end
-- ==== Proof.Value.lean ====
/-
  The kernel's result array is the reference's, where the rows that the mask selects are finite.
-/
module

public import proofs.«01_k».proof.Proof.Block
public import proofs.«01_k».proof.Proof.HostOperands
public import proofs.«01_k».proof.Proof.Reference
public import proofs.«01_k».proof.Proof.Equation
public import proofs.«01_k».proof.Proof.Precondition

@[expose] public section

set_option maxRecDepth 16384

noncomputable section

namespace Cert.Value

open Cert.KernelIdeal
open Idealize.ShloMosaic

/-- A selected sum is the sum of the selected terms. -/
theorem sum_select (b : BitVec 1) (f : Fin 128 → EReal) :
    ∑ l, Scalar.select b (f l) 0 = if b = 1#1 then ∑ l, f l else 0 := by
  by_cases h : b = 1#1
  · simp [Scalar.select, h]
  · simp [Scalar.select, h]

/-- Entry by entry, the blocks' array over the mask's rows and the two weight blocks is the reference's result. -/
theorem whole_eq_result (x : FVec Ideal S100000x128 .f32) (k : IVec S100000 1) (w : FVec Ideal S128x128 .f32)
    (h : Cert.Pre_selected_rows_finite.fn (F := Ideal) x k w = fun _ => 1#1) :
    Block.whole x (HostOperands.maskRows k) (HostOperands.weights w) = Reference.result x k w := by
  funext i
  obtain ⟨r, j, rfl⟩ : ∃ (r : Fin 100000) (j : Fin 128), i = ix2 r j := ⟨i 0, i 1, by
    funext a
    match a with
    | ⟨0, _⟩ => rfl
    | ⟨1, _⟩ => rfl⟩
  rw [Block.whole_at, Reference.result_at, HostOperands.mask_at]
  simp only [HostOperands.weights_top, HostOperands.weights_bottom]
  rw [Equation.sum_mul_eye (fun l => x (ix2 r l)) j, sum_select]
  by_cases hk : k (ix1 r) = 1#1
  · have hf := Precondition.finite_of_selected x k w h r j hk
    rw [if_pos hk, Equation.add_sum_mul_sub_eye (fun l => x (ix2 r l)) (fun l => w (ix2 l j)) j hf.1 hf.2]
    simp [Scalar.select, hk]
  · rw [if_neg hk, add_zero]
    simp [Scalar.select, hk]

end Cert.Value

end
-- ==== Proof.lean ====
/-
  The claims about the masked row update, assembled: the kernel, its idealization and the reference run, keep their
  arguments and end with every counter at zero; and the idealized kernel's result is the reference's wherever the rows
  that the mask selects are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_selected_rows_finite
public import proofs.«01_k».proof.Proof.KernelFrame
public import proofs.«01_k».proof.Proof.KernelRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged and every counter at zero: it has no counters. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => ⟨(h c).2.1, (h c).2.2.1, (h c).2.2.2⟩, sem_eq_zero_of_no_sems (by decide) r.2⟩)
    (Cert.ReferenceIdeal.Value.run (F := Ideal) m ρ)

/-- From memories that agree on the arguments, where the rows the mask selects are finite, the kernel and the
    reference end with the same result array. -/
theorem algebraic : Cert.algebraic_KernelIdeal_ReferenceIdeal_pre_selected_rows_finite := by
  intro m g m' g' hpre hargs
  refine ⟨fun c => Block.whole _ _ _, Cert.KernelRun.value m g, ?_⟩
  refine (θ_run Cert.ReferenceIdeal.defs _ _).mono (fun r h c => ⟨(h c).1.trans ?_, (h c).2⟩)
    (Cert.ReferenceIdeal.Value.run (F := Ideal) m' g')
  obtain ⟨e0, e1, e2⟩ := hargs c
  rw [e0, e1, e2]
  exact (Cert.Value.whole_eq_result _ _ _ (hpre c)).symm

/-- Every claim: the three frames, the idealization's own claim, and the equality of the results. -/
theorem claim : Cert.Claim :=
  ⟨Cert.Kernel.Gen.facts, Cert.KernelIdeal.Gen.facts, Cert.ReferenceIdeal.Gen.facts, Cert.Pre_selected_rows_finite.Gen.facts,
    fun m g _ => Cert.KernelFrame.frame m g,
    fun m g _ => Cert.KernelRun.frame m g,
    fun m g _ => Cert.KernelRun.frame m g,
    fun m g _ => reference_frame m g,
    fun m g _ => reference_frame m g,
    trivial,
    algebraic⟩

end Cert.Proof

end
